-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_spacing [hPre_unit_spacing : Cert.Pre_unit_spacing.Facts] (m : (ℓ : Loc Cert.KernelIdeal.nD Cert.KernelIdeal.τ Cert.KernelIdeal.sig) → Buf (Elt Ideal) ℓ) : Prop :=
  ∀ c : Dev Cert.KernelIdeal.nD,
    (Cert.Pre_unit_spacing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_spacing [hPre_unit_spacing : Cert.Pre_unit_spacing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_spacing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_unit_spacing [hKernelIdeal : Cert.KernelIdeal.Facts] [hPre_unit_spacing : Cert.Pre_unit_spacing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_spacing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_unit_spacing [hReferenceIdeal : Cert.ReferenceIdeal.Facts] [hPre_unit_spacing : Cert.Pre_unit_spacing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_spacing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_unit_spacing [hKernelIdeal : Cert.KernelIdeal.Facts] [hReferenceIdeal : Cert.ReferenceIdeal.Facts] [hPre_unit_spacing : Cert.Pre_unit_spacing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_spacing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_unit_spacing : Cert.Pre_unit_spacing.Facts),
    quiescent_Kernel (hKernel := hKernel)
    ∧ quiescent_KernelIdeal (hKernelIdeal := hKernelIdeal)
    ∧ quiescent_KernelIdeal_pre_unit_spacing (hKernelIdeal := hKernelIdeal) (hPre_unit_spacing := hPre_unit_spacing)
    ∧ quiescent_ReferenceIdeal (hReferenceIdeal := hReferenceIdeal)
    ∧ quiescent_ReferenceIdeal_pre_unit_spacing (hReferenceIdeal := hReferenceIdeal) (hPre_unit_spacing := hPre_unit_spacing)
    ∧ preserves_Kernel_KernelIdeal
    ∧ algebraic_KernelIdeal_ReferenceIdeal_pre_unit_spacing (hKernelIdeal := hKernelIdeal) (hReferenceIdeal := hReferenceIdeal) (hPre_unit_spacing := hPre_unit_spacing)
-- ==== Pre_unit_spacing.lean ====
abbrev S4x128x128x128 : Shape := ⟨4, ![4, 128, 128, 128]⟩
abbrev S1 : Shape := ⟨1, ![1]⟩
abbrev S_ : Shape := ⟨0, ![]⟩

class Facts : Prop where
  bcast_S_S4x128x128x128 : S_.BroadcastsInDim S4x128x128x128 (![] : Fin 0 → Fin S4x128x128x128.rank)
  reducesTo_S4x128x128x128_S_d0_1_2_3 : S4x128x128x128.ReducesTo [0, 1, 2, 3] S_
  h_S_ : 0 < S_.numel

variable [Facts]

def fn {F : FTy → Type} [FloatOps F] (main_arg0 : FVec F S4x128x128x128 .f32) (main_arg1 : FVec F S4x128x128x128 .f32) (main_arg2 : FVec F S4x128x128x128 .f32) (main_arg3 : FVec F S1 .f32) (main_arg4 : FVec F S1 .f32) : IVec S_ 1 :=
  let main_cst : FVec F S_ .f32 := constant S_ .f32 0x3F800000#32
  let main_v0 : FVec F S4x128x128x128 .f32 := broadcastInDim S4x128x128x128 ![] bcast_S_S4x128x128x128 main_cst
  let main_v1 : IVec S4x128x128x128 1 := cmpf .oeq main_arg2 main_v0
  let main_c : IVec S_ 1 := constantI S_ 1 1#1
  let main_v2 : IVec S_ 1 := (fun x v => Host.reduce IntOp.andi x v reducesTo_S4x128x128x128_S_d0_1_2_3 h_S_) main_v1 main_c
  main_v2
-- ==== Kernel.lean ====
abbrev S4x128x128x128 : Shape := ⟨4, ![4, 128, 128, 128]⟩
abbrev S1 : Shape := ⟨1, ![1]⟩
abbrev S1x64x128x128 : Shape := ⟨4, ![1, 64, 128, 128]⟩
abbrev S1x1x128x128 : Shape := ⟨4, ![1, 1, 128, 128]⟩
abbrev S1x62x128x128 : Shape := ⟨4, ![1, 62, 128, 128]⟩

abbrev nBuf : Space → Nat
  | .hbm => 6
  | .vmem => 14
  | .smem => 0
  | _ => 0

abbrev bufTy : (tb : Table) → Fin (tcTables nBuf tb) → BufTy
  | .hbm, ⟨0, _⟩ => ⟨S4x128x128x128, .f32⟩
  | .hbm, ⟨1, _⟩ => ⟨S4x128x128x128, .f32⟩
  | .hbm, ⟨2, _⟩ => ⟨S4x128x128x128, .f32⟩
  | .hbm, ⟨3, _⟩ => ⟨S1, .f32⟩
  | .hbm, ⟨4, _⟩ => ⟨S1, .f32⟩
  | .hbm, ⟨5, _⟩ => ⟨S4x128x128x128, .f32⟩
  | .local _ .vmem, ⟨0, _⟩ => ⟨S1x64x128x128, .f32⟩
  | .local _ .vmem, ⟨1, _⟩ => ⟨S1x64x128x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x1x128x128, .f32⟩
  | .local _ .vmem, ⟨5, _⟩ => ⟨S1x1x128x128, .f32⟩
  | .local _ .vmem, ⟨6, _⟩ => ⟨S1x1x128x128, .f32⟩
  | .local _ .vmem, ⟨7, _⟩ => ⟨S1x1x128x128, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x64x128x128, .f32⟩
  | .local _ .vmem, ⟨13, _⟩ => ⟨S1x64x128x128, .f32⟩
  | _, _ => ⟨S4x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c128_i32 : BitVec 32 := 128#32
  let c0_i32 : BitVec 32 := 0#32
  let v2 : BitVec 1 := Scalar.cmpi .eq c128_i32 c0_i32
  let c1_i32_0 : BitVec 32 := 1#32
  let v3 : BitVec 32 := Scalar.select v2 c1_i32_0 c128_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, v11.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c128_i32 : BitVec 32 := 128#32
  let c0_i32 : BitVec 32 := 0#32
  let v2 : BitVec 1 := Scalar.cmpi .eq c128_i32 c0_i32
  let c1_i32_0 : BitVec 32 := 1#32
  let v3 : BitVec 32 := Scalar.select v2 c1_i32_0 c128_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, v11.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c64_i32_0 : BitVec 32 := 64#32
  let v1 : BitVec 32 := Scalar.addi v0 c64_i32_0
  let c128_i32 : BitVec 32 := 128#32
  let c0_i32 : BitVec 32 := 0#32
  let v2 : BitVec 1 := Scalar.cmpi .eq c128_i32 c0_i32
  let c1_i32 : BitVec 32 := 1#32
  let v3 : BitVec 32 := Scalar.select v2 c1_i32 c128_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, v11.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c64_i32_0 : BitVec 32 := 64#32
  let v1 : BitVec 32 := Scalar.addi v0 c64_i32_0
  let c128_i32 : BitVec 32 := 128#32
  let c0_i32 : BitVec 32 := 0#32
  let v2 : BitVec 1 := Scalar.cmpi .eq c128_i32 c0_i32
  let c1_i32 : BitVec 32 := 1#32
  let v3 : BitVec 32 := Scalar.select v2 c1_i32 c128_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, v11.toNat, c0_i32_4.toNat, c0_i32_5.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x128x128x128 : Shape := ⟨4, ![4, 128, 128, 128]⟩
abbrev S1 : Shape := ⟨1, ![1]⟩
abbrev S1x4x128x128x128 : Shape := ⟨5, ![1, 4, 128, 128, 128]⟩
abbrev S3x4x128x128x128 : Shape := ⟨5, ![3, 4, 128, 128, 128]⟩
abbrev S4x1x128x128 : Shape := ⟨4, ![4, 1, 128, 128]⟩
abbrev S4x127x128x128 : Shape := ⟨4, ![4, 127, 128, 128]⟩
abbrev S4x128x1x128 : Shape := ⟨4, ![4, 128, 1, 128]⟩
abbrev S4x128x127x128 : Shape := ⟨4, ![4, 128, 127, 128]⟩
abbrev S4x128x128x1 : Shape := ⟨4, ![4, 128, 128, 1]⟩
abbrev S4x128x128x127 : Shape := ⟨4, ![4, 128, 128, 127]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x128x128x128, .f32⟩
  | .hbm, ⟨1, _⟩ => ⟨S4x128x128x128, .f32⟩
  | .hbm, ⟨2, _⟩ => ⟨S4x128x128x128, .f32⟩
  | .hbm, ⟨3, _⟩ => ⟨S1, .f32⟩
  | .hbm, ⟨4, _⟩ => ⟨S1, .f32⟩
  | .hbm, ⟨5, _⟩ => ⟨S1x4x128x128x128, .f32⟩
  | .hbm, ⟨6, _⟩ => ⟨S1x4x128x128x128, .f32⟩
  | .hbm, ⟨7, _⟩ => ⟨S1x4x128x128x128, .f32⟩
  | .hbm, ⟨8, _⟩ => ⟨S3x4x128x128x128, .f32⟩
  | .hbm, ⟨9, _⟩ => ⟨S1x4x128x128x128, .f32⟩
  | .hbm, ⟨10, _⟩ => ⟨S4x128x128x128, .f32⟩
  | .hbm, ⟨11, _⟩ => ⟨S1x4x128x128x128, .f32⟩
  | .hbm, ⟨12, _⟩ => ⟨S4x128x128x128, .f32⟩
  | .hbm, ⟨13, _⟩ => ⟨S1x4x128x128x128, .f32⟩
  | .hbm, ⟨14, _⟩ => ⟨S4x128x128x128, .f32⟩
  | .hbm, ⟨15, _⟩ => ⟨S4x128x128x128, .f32⟩
  | .hbm, ⟨16, _⟩ => ⟨S4x1x128x128, .f32⟩
  | .hbm, ⟨17, _⟩ => ⟨S4x127x128x128, .f32⟩
  | .hbm, ⟨18, _⟩ => ⟨S4x128x128x128, .f32⟩
  | .hbm, ⟨19, _⟩ => ⟨S4x127x128x128, .f32⟩
  | .hbm, ⟨20, _⟩ => ⟨S4x1x128x128, .f32⟩
  | .hbm, ⟨21, _⟩ => ⟨S4x128x128x128, .f32⟩
  | .hbm, ⟨22, _⟩ => ⟨S4x128x128x128, .f32⟩
  | .hbm, ⟨23, _⟩ => ⟨S4x128x1x128, .f32⟩
  | .hbm, ⟨24, _⟩ => ⟨S4x128x127x128, .f32⟩
  | .hbm, ⟨25, _⟩ => ⟨S4x128x128x128, .f32⟩
  | .hbm, ⟨26, _⟩ => ⟨S4x128x128x128, .f32⟩
  | .hbm, ⟨27, _⟩ => ⟨S4x128x127x128, .f32⟩
  | .hbm, ⟨28, _⟩ => ⟨S4x128x1x128, .f32⟩
  | .hbm, ⟨29, _⟩ => ⟨S4x128x128x128, .f32⟩
  | .hbm, ⟨30, _⟩ => ⟨S4x128x128x128, .f32⟩
  | .hbm, ⟨31, _⟩ => ⟨S4x128x128x1, .f32⟩
  | .hbm, ⟨32, _⟩ => ⟨S4x128x128x127, .f32⟩
  | .hbm, ⟨33, _⟩ => ⟨S4x128x128x128, .f32⟩
  | .hbm, ⟨34, _⟩ => ⟨S4x128x128x128, .f32⟩
  | .hbm, ⟨35, _⟩ => ⟨S4x128x128x127, .f32⟩
  | .hbm, ⟨36, _⟩ => ⟨S4x128x128x1, .f32⟩
  | .hbm, ⟨37, _⟩ => ⟨S4x128x128x128, .f32⟩
  | .hbm, ⟨38, _⟩ => ⟨S4x128x128x128, .f32⟩
  | .hbm, ⟨39, _⟩ => ⟨S_, .f32⟩
  | .hbm, ⟨40, _⟩ => ⟨S4x128x128x128, .f32⟩
  | .hbm, ⟨41, _⟩ => ⟨S4x128x128x128, .f32⟩
  | .hbm, ⟨42, _⟩ => ⟨S4x128x128x128, .f32⟩
  | .hbm, ⟨43, _⟩ => ⟨S4x128x128x128, .f32⟩
  | .hbm, ⟨44, _⟩ => ⟨S4x128x128x128, .f32⟩
  | .hbm, ⟨45, _⟩ => ⟨S4x128x128x128, .f32⟩
  | _, _ => ⟨S4x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_call1_v0 : Ref sig .tc := ⟨.hbm, 19, rfl⟩
abbrev main_call1_v1 : Ref sig .tc := ⟨.hbm, 20, rfl⟩
abbrev main_v12 : Ref sig .tc := ⟨.hbm, 21, rfl⟩
abbrev main_v13 : Ref sig .tc := ⟨.hbm, 22, rfl⟩
abbrev main_call2_v0 : Ref sig .tc := ⟨.hbm, 23, rfl⟩
abbrev main_call2_v1 : Ref sig .tc := ⟨.hbm, 24, rfl⟩
abbrev main_v14 : Ref sig .tc := ⟨.hbm, 25, rfl⟩
abbrev main_v15 : Ref sig .tc := ⟨.hbm, 26, rfl⟩
abbrev main_call3_v0 : Ref sig .tc := ⟨.hbm, 27, rfl⟩
abbrev main_call3_v1 : Ref sig .tc := ⟨.hbm, 28, rfl⟩
abbrev main_v16 : Ref sig .tc := ⟨.hbm, 29, rfl⟩
abbrev main_v17 : Ref sig .tc := ⟨.hbm, 30, rfl⟩
abbrev main_call4_v0 : Ref sig .tc := ⟨.hbm, 31, rfl⟩
abbrev main_call4_v1 : Ref sig .tc := ⟨.hbm, 32, rfl⟩
abbrev main_v18 : Ref sig .tc := ⟨.hbm, 33, rfl⟩
abbrev main_v19 : Ref sig .tc := ⟨.hbm, 34, rfl⟩
abbrev main_call5_v0 : Ref sig .tc := ⟨.hbm, 35, rfl⟩
abbrev main_call5_v1 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Proof.Stencil.lean ====
/- Hand-written, untrusted: THE KERNEL'S RESULT AS ONE FUNCTION OF THE TWO GRIDS IT READS (`stencil`), at any float values.
   The grid is periodic: a point is named by four naturals, each taken modulo its axis (`cell`), so that a neighbour is a
   point whatever side of the grid it is on (`x + 1`, and `x + 127` for `x - 1`). -/
module

public import proofs.«01_k».proof.KernelIdeal
public import Idealize.ShloMosaic.Lib.ValueIdx

@[expose] public section

noncomputable section

namespace Cert.Proof.Stencil

open Idealize.ShloMosaic Idealize.ShloMosaic.ValueIdx Cert.KernelIdeal

/-- The point of the periodic grid with the given coordinates: each is taken modulo its axis. -/
def cell (b x y z : ℕ) : S4x128x128x128.Idx :=
  ix4 ⟨b % 4, Nat.mod_lt _ (by decide)⟩ ⟨x % 128, Nat.mod_lt _ (by decide)⟩ ⟨y % 128, Nat.mod_lt _ (by decide)⟩
    ⟨z % 128, Nat.mod_lt _ (by decide)⟩

/-- Coordinates that agree modulo the axes name one point. -/
theorem cell_congr {b b' x x' y y' z z' : ℕ} (hb : b % 4 = b' % 4) (hx : x % 128 = x' % 128) (hy : y % 128 = y' % 128)
    (hz : z % 128 = z' % 128) : cell b x y z = cell b' x' y' z' := by
  simp only [cell, hb, hx, hy, hz]

/-- An index of the grid is the point of its own coordinates. -/
theorem eq_cell (i : S4x128x128x128.Idx) {b x y z : ℕ} (hb : (i 0).val = b % 4) (hx : (i 1).val = x % 128)
    (hy : (i 2).val = y % 128) (hz : (i 3).val = z % 128) : i = cell b x y z := by
  funext a
  apply Fin.ext
  match a with
  | ⟨0, _⟩ => exact hb
  | ⟨1, _⟩ => exact hx
  | ⟨2, _⟩ => exact hy
  | ⟨3, _⟩ => exact hz

variable {F : FTy → Type} [FloatOps F]

/-- The field at a point where the mask is on: the product of the two grids. -/
def masked (mu act : Vec F S4x128x128x128 .f32) (b x y z : ℕ) : F .f32 :=
  FloatOps.mulf (mu (cell b x y z)) (act (cell b x y z))

/-- The four neighbours in a point's own plane, less six times the point. -/
def inPlane (mu act : Vec F S4x128x128x128 .f32) (b x y z : ℕ) : F .f32 :=
  FloatOps.subf
    (FloatOps.addf
      (FloatOps.addf (FloatOps.addf (masked mu act b x (y + 127) z) (masked mu act b x (y + 1) z)) (masked mu act b x y (z + 127)))
      (masked mu act b x y (z + 1)))
    (FloatOps.mulf (FloatOps.ofBits .f32 0x40C00000#32) (masked mu act b x y z))

/-- The kernel's value at a point: the two neighbours in the planes before and after, then `inPlane`, under the mask. -/
def valueAt (mu act : Vec F S4x128x128x128 .f32) (b x y z : ℕ) : F .f32 :=
  FloatOps.mulf
    (FloatOps.addf (FloatOps.addf (masked mu act b (x + 127) y z) (masked mu act b (x + 1) y z)) (inPlane mu act b x y z))
    (act (cell b x y z))

/-- The kernel's result. -/
def stencil (mu act : Vec F S4x128x128x128 .f32) : Vec F S4x128x128x128 .f32 :=
  fun i => valueAt mu act (i 0).val (i 1).val (i 2).val (i 3).val

end Cert.Proof.Stencil

end
-- ==== Proof.Block.lean ====
/- Hand-written, untrusted: WHAT ONE BLOCK COMPUTES, at any float values. The body holds 64 planes of both grids, the plane
   before them and the plane after them, and stores three pieces: the 62 inner planes, the first plane and the last. Each
   is the stencil at its points, so the block is (`out_eq`). -/
module

public import proofs.«01_k».proof.Proof.Stencil
public import proofs.«01_k».proof.Proof.Gen.KernelIdeal.Value

@[expose] public section

noncomputable section

namespace Cert.Proof.Block

open Cert.KernelIdeal Cert.KernelIdeal.Gen Cert.Proof.Stencil
open Idealize.ShloMosaic Idealize.ShloMosaic.TcCoe Idealize.ShloMosaic.ValueIdx Idealize.SL.Sem

variable {F : FTy → Type} [FloatOps F]

/-- A block of 64 planes of `X` from plane `p` of batch `b`. -/
def IsSlab (X : Vec F S4x128x128x128 .f32) (b p : ℕ) (x : Vec F S1x64x128x128 .f32) : Prop :=
  ∀ j : S1x64x128x128.Idx, x j = X (cell b (p + (j 1).val) (j 2).val (j 3).val)

/-- A block of the one plane `p` of `X`, of batch `b`. -/
def IsPlane (X : Vec F S4x128x128x128 .f32) (b p : ℕ) (x : Vec F S1x1x128x128 .f32) : Prop :=
  ∀ j : S1x1x128x128.Idx, x j = X (cell b p (j 2).val (j 3).val)

variable {mu act : Vec F S4x128x128x128 .f32} {b p : ℕ}

section Payloads

variable {x0 x1 : Vec F S1x64x128x128 .f32} (h0 : IsSlab mu b p x0) (h1 : IsSlab act b p x1)
include h0 h1

/-- The body's product of its two blocks is the masked field. -/
theorem product_apply (j : S1x64x128x128.Idx) :
    k0_pay3 x0 x1 j = masked mu act b (p + (j 1).val) (j 2).val (j 3).val := by
  show FloatOps.mulf (x0 j) (x1 j) = _
  rw [h0 j, h1 j, masked]

/-- The product at an index is the masked field at any point the index names. -/
theorem product_at (j : S1x64x128x128.Idx) {x y z : ℕ} (hx : (p + (j 1).val) % 128 = x % 128)
    (hy : (j 2).val % 128 = y % 128) (hz : (j 3).val % 128 = z % 128) : k0_pay3 x0 x1 j = masked mu act b x y z := by
  rw [product_apply h0 h1, masked, cell_congr rfl hx hy hz, masked]

/-- The body's sum within the planes: its rotations by 1 and by 127 read the neighbours on either side, wrapping round. -/
theorem inPlane_apply (j : S1x64x128x128.Idx) :
    k0_pay4 x0 x1 j = inPlane mu act b (p + (j 1).val) (j 2).val (j 3).val := by
  unfold inPlane
  refine congrArg₂ FloatOps.subf (congrArg₂ FloatOps.addf (congrArg₂ FloatOps.addf (congrArg₂ FloatOps.addf
      (product_at h0 h1 _ ?_ ?_ ?_) (product_at h0 h1 _ ?_ ?_ ?_)) (product_at h0 h1 _ ?_ ?_ ?_)) (product_at h0 h1 _ ?_ ?_ ?_))
    (congrArg (FloatOps.mulf _) (product_apply h0 h1 j))
  · rfl
  · show ((j 2).val + 128 - 1) % 128 % 128 = _; omega
  · rfl
  · rfl
  · show ((j 2).val + 128 - 127) % 128 % 128 = _; omega
  · rfl
  · rfl
  · rfl
  · show ((j 3).val + 128 - 1) % 128 % 128 = _; omega
  · rfl
  · rfl
  · show ((j 3).val + 128 - 127) % 128 % 128 = _; omega

/-- The store of the inner planes: row `r` of it is plane `r + 1` of the block. -/
theorem inner_apply (j : S1x62x128x128.Idx) :
    k0_pay7 x0 x1 j = valueAt mu act b (p + (1 + (j 1).val)) (j 2).val (j 3).val := by
  show FloatOps.mulf (FloatOps.addf (FloatOps.addf (k0_pay3 x0 x1 _) (k0_pay3 x0 x1 _)) (k0_pay4 x0 x1 _)) (x1 _) = _
  rw [product_at h0 h1 _ (x := p + (1 + (j 1).val) + 127) (y := (j 2).val) (z := (j 3).val) ?_ ?_ ?_,
    product_at h0 h1 _ (x := p + (1 + (j 1).val) + 1) (y := (j 2).val) (z := (j 3).val) ?_ ?_ ?_,
    inPlane_apply h0 h1, h1, valueAt]
  · show FloatOps.mulf (FloatOps.addf _ (inPlane mu act b (p + (1 + (j 1).val)) (0 + (j 2).val) (0 + (j 3).val)))
      (act (cell b (p + (1 + (j 1).val)) (0 + (j 2).val) (0 + (j 3).val))) = _
    simp only [Nat.zero_add]
  · show (p + (2 + (j 1).val)) % 128 = _; omega
  · show (0 + (j 2).val) % 128 = _; omega
  · show (0 + (j 3).val) % 128 = _; omega
  · show (p + (0 + (j 1).val)) % 128 = _; omega
  · show (0 + (j 2).val) % 128 = _; omega
  · show (0 + (j 3).val) % 128 = _; omega

/-- The store of the first plane: the plane before it is the one held apart. -/
theorem first_apply {x2 x3 : Vec F S1x1x128x128 .f32} (h2 : IsPlane mu b (p + 127) x2) (h3 : IsPlane act b (p + 127) x3)
    (j : S1x1x128x128.Idx) :
    k0_pay1 x1 (k0_pay3 x0 x1) (k0_pay4 x0 x1) (k0_pay5 x2 x3) j = valueAt mu act b p (j 2).val (j 3).val := by
  have hj : (j 1).val = 0 := by have : (j 1).val < 1 := (j 1).isLt; omega
  show FloatOps.mulf (FloatOps.addf (FloatOps.addf (FloatOps.mulf (x2 j) (x3 j)) (k0_pay3 x0 x1 _)) (k0_pay4 x0 x1 _)) (x1 _) = _
  rw [product_at h0 h1 _ (x := p + 1) (y := (j 2).val) (z := (j 3).val) ?_ ?_ ?_, inPlane_apply h0 h1, h1, h2, h3, valueAt]
  · show FloatOps.mulf (FloatOps.addf _ (inPlane mu act b (p + (0 + (j 1).val)) (0 + (j 2).val) (0 + (j 3).val)))
      (act (cell b (p + (0 + (j 1).val)) (0 + (j 2).val) (0 + (j 3).val))) = _
    simp only [hj, Nat.zero_add, Nat.add_zero]; rfl
  · show (p + (1 + (j 1).val)) % 128 = _; omega
  · show (0 + (j 2).val) % 128 = _; omega
  · show (0 + (j 3).val) % 128 = _; omega

/-- The store of the last plane: the plane after it is the one held apart. -/
theorem last_apply {x4 x5 : Vec F S1x1x128x128 .f32} (h4 : IsPlane mu b (p + 64) x4) (h5 : IsPlane act b (p + 64) x5)
    (j : S1x1x128x128.Idx) :
    k0_pay2 x1 (k0_pay3 x0 x1) (k0_pay4 x0 x1) (k0_pay6 x4 x5) j = valueAt mu act b (p + 63) (j 2).val (j 3).val := by
  have hj : (j 1).val = 0 := by have : (j 1).val < 1 := (j 1).isLt; omega
  show FloatOps.mulf (FloatOps.addf (FloatOps.addf (k0_pay3 x0 x1 _) (FloatOps.mulf (x4 j) (x5 j))) (k0_pay4 x0 x1 _)) (x1 _) = _
  rw [product_at h0 h1 _ (x := p + 63 + 127) (y := (j 2).val) (z := (j 3).val) ?_ ?_ ?_, inPlane_apply h0 h1, h1, h4, h5,
    valueAt]
  · show FloatOps.mulf (FloatOps.addf _ (inPlane mu act b (p + (63 + (j 1).val)) (0 + (j 2).val) (0 + (j 3).val)))
      (act (cell b (p + (63 + (j 1).val)) (0 + (j 2).val) (0 + (j 3).val))) = _
    simp only [hj, Nat.zero_add, Nat.add_zero]; rfl
  · show (p + (62 + (j 1).val)) % 128 = _; omega
  · show (0 + (j 2).val) % 128 = _; omega
  · show (0 + (j 3).val) % 128 = _; omega

end Payloads

/-- The offsets of a whole-block load are zero. -/
theorem hz : (![0, 0, 0, 0] : Fin 4 → Nat) = fun _ => 0 := funext fun a => by fin_cases a <;> rfl

/-- What the body loads of a block of 64 planes, from the buffer that holds it: all of it. -/
abbrev loadSlab (a : Memref sig .tc .vmem S1x64x128x128 .f32) (w : a.IsWhole) (x : Vec F S1x64x128x128 .f32) :
    Vec F S1x64x128x128 .f32 :=
  View.readAt (Elt F) a.view (Rect.unit (s := S1x64x128x128) ![0, 0, 0, 0] S1x64x128x128.size
    inb_S1x64x128x128_S1x64x128x128_0_0_0_0).toLoadRect (w.unread x)

/-- What it loads of a plane held apart: all of it. -/
abbrev loadPlane (a : Memref sig .tc .vmem S1x1x128x128 .f32) (w : a.IsWhole) (x : Vec F S1x1x128x128 .f32) :
    Vec F S1x1x128x128 .f32 :=
  View.readAt (Elt F) a.view (Rect.unit (s := S1x1x128x128) ![0, 0, 0, 0] S1x1x128x128.size
    inb_S1x1x128x128_S1x1x128x128_0_0_0_0).toLoadRect (w.unread x)

/-- So the load of the 64 planes is the block. -/
theorem loadSlab_eq (a : Memref sig .tc .vmem S1x64x128x128 .f32) (w : a.IsWhole) (x : Vec F S1x64x128x128 .f32) :
    loadSlab a w x = x := by
  unfold loadSlab
  rw [View.readAt_eq_ld, w.read_unread, View.ld_unit_zero hz]

/-- So the load of the plane is the plane. -/
theorem loadPlane_eq (a : Memref sig .tc .vmem S1x1x128x128 .f32) (w : a.IsWhole) (x : Vec F S1x1x128x128 .f32) :
    loadPlane a w x = x := by
  unfold loadPlane
  rw [View.readAt_eq_ld, w.read_unread, View.ld_unit_zero hz]

/-- The body's three stores, the last one first: the last plane, the first plane, the planes between. -/
def stores (x0 x1 : Vec F S1x64x128x128 .f32) (x2 x3 x4 x5 : Vec F S1x1x128x128 .f32) :
    List (View.Piece (Elt F) S1x64x128x128 .f32) :=
  [⟨Rect.unit ![0, 63, 0, 0] S1x1x128x128.size inb_S1x64x128x128_S1x1x128x128_0_63_0_0,
      k0_pay2 x1 (k0_pay3 x0 x1) (k0_pay4 x0 x1) (k0_pay6 x4 x5)⟩,
    ⟨Rect.unit ![0, 0, 0, 0] S1x1x128x128.size inb_S1x64x128x128_S1x1x128x128_0_0_0_0,
      k0_pay1 x1 (k0_pay3 x0 x1) (k0_pay4 x0 x1) (k0_pay5 x2 x3)⟩,
    ⟨Rect.unit ![0, 1, 0, 0] S1x62x128x128.size inb_S1x64x128x128_S1x62x128x128_0_1_0_0, k0_pay7 x0 x1⟩]

/-- What the body leaves in its output block, from input blocks that are 64 planes of both grids with the planes on either
    side: the kernel's value at the block's points. -/
theorem out_eq (c : Dev nD) (i : grid0.Coords)
    (a0 : Memref sig .tc .vmem S1x64x128x128 .f32) (w0 : a0.IsWhole) (a1 : Memref sig .tc .vmem S1x64x128x128 .f32) (w1 : a1.IsWhole)
    (a2 : Memref sig .tc .vmem S1x1x128x128 .f32) (w2 : a2.IsWhole) (a3 : Memref sig .tc .vmem S1x1x128x128 .f32) (w3 : a3.IsWhole)
    (a4 : Memref sig .tc .vmem S1x1x128x128 .f32) (w4 : a4.IsWhole) (a5 : Memref sig .tc .vmem S1x1x128x128 .f32) (w5 : a5.IsWhole)
    (a6 : Memref sig .tc .vmem S1x64x128x128 .f32) (w6 : a6.IsWhole)
    {x0 x1 : Vec F S1x64x128x128 .f32} {x2 x3 x4 x5 : Vec F S1x1x128x128 .f32}
    (h0 : IsSlab mu b p x0) (h1 : IsSlab act b p x1) (h2 : IsPlane mu b (p + 127) x2) (h3 : IsPlane act b (p + 127) x3)
    (h4 : IsPlane mu b (p + 64) x4) (h5 : IsPlane act b (p + 64) x5) :
    out0_A_6 c i a0 w0 a1 w1 a2 w2 a3 w3 a4 w4 a5 w5 a6 w6 x0 x1 x2 x3 x4 x5
      = fun j => valueAt mu act b (p + (j 1).val) (j 2).val (j 3).val := by
  funext y
  have hc := cover0_A_6 c i a0 w0 a1 w1 a2 w2 a3 w3 a4 w4 a5 w5 a6 w6 x0 x1 x2 x3 x4 x5 y
  unfold out0_A_6
  rw [View.read_writes_junk_eq_canon]
  refine View.canon_apply_of_pieces (fun j => valueAt mu act b (p + (j 1).val) (j 2).val (j 3).val) _ ?_ y hc
  show ∀ q ∈ stores (loadSlab a0 w0 x0) (loadSlab a1 w1 x1) (loadPlane a2 w2 x2) (loadPlane a3 w3 x3) (loadPlane a4 w4 x4)
    (loadPlane a5 w5 x5), _
  rw [loadSlab_eq, loadSlab_eq, loadPlane_eq, loadPlane_eq, loadPlane_eq, loadPlane_eq]
  intro q hq j
  simp only [stores, List.mem_cons, List.not_mem_nil, or_false] at hq
  obtain rfl | rfl | rfl := hq
  · have hj : (j 1).val = 0 := by have : (j 1).val < 1 := (j 1).isLt; omega
    refine (last_apply h0 h1 h4 h5 j).trans ?_
    show _ = valueAt mu act b (p + (63 + 1 * (j 1).val)) (0 + 1 * (j 2).val) (0 + 1 * (j 3).val)
    simp only [hj, Nat.zero_add, Nat.add_zero, Nat.one_mul, Nat.mul_zero]
  · have hj : (j 1).val = 0 := by have : (j 1).val < 1 := (j 1).isLt; omega
    refine (first_apply h0 h1 h2 h3 j).trans ?_
    show _ = valueAt mu act b (p + (0 + 1 * (j 1).val)) (0 + 1 * (j 2).val) (0 + 1 * (j 3).val)
    simp only [hj, Nat.zero_add, Nat.add_zero, Nat.one_mul, Nat.mul_zero]
  · refine (inner_apply h0 h1 j).trans ?_
    show _ = valueAt mu act b (p + (1 + 1 * (j 1).val)) (0 + 1 * (j 2).val) (0 + 1 * (j 3).val)
    simp only [Nat.zero_add, Nat.one_mul]

end Cert.Proof.Block

end
-- ==== Proof.Array.lean ====
/- Hand-written, untrusted: WHAT THE RESULT ARRAY HOLDS AFTER THE KERNEL, at any float values: the stencil of the two grids
   (`final`, `run`). Grid point `t` is half `t % 2` of batch `t / 2`: its planes start at `64 * (t % 2)`, the plane before
   them and the plane after them are taken round the grid, and the eight blocks cover the array. -/
module

public import proofs.«01_k».proof.Proof.Block

@[expose] public section

noncomputable section

namespace Cert.Proof.Array

open Cert.KernelIdeal Cert.KernelIdeal.Gen Cert.KernelIdeal.Value Cert.Proof.Stencil Cert.Proof.Block
open Idealize.ShloMosaic Idealize.ShloMosaic.TcCoe Idealize.SL.Sem

variable {F : FTy → Type} [FloatOps F]

/-- The windows of the 64 planes, inputs and output: the block of half `t % 2` of batch `t / 2`. -/
theorem index_slab : ∀ t : Fin cfg0.N,
    (win0_0.index t (0 : Fin 4) = t.val / 2 ∧ win0_0.index t (1 : Fin 4) = t.val % 2
      ∧ win0_0.index t (2 : Fin 4) = 0 ∧ win0_0.index t (3 : Fin 4) = 0)
    ∧ (win0_1.index t (0 : Fin 4) = t.val / 2 ∧ win0_1.index t (1 : Fin 4) = t.val % 2
      ∧ win0_1.index t (2 : Fin 4) = 0 ∧ win0_1.index t (3 : Fin 4) = 0)
    ∧ (win0_6.index t (0 : Fin 4) = t.val / 2 ∧ win0_6.index t (1 : Fin 4) = t.val % 2
      ∧ win0_6.index t (2 : Fin 4) = 0 ∧ win0_6.index t (3 : Fin 4) = 0) :=
  (by decide +kernel : ∀ t : Fin grid0.N, _)

/-- The windows of the plane before: the one before the half's first, round the grid. -/
theorem index_before : ∀ t : Fin cfg0.N,
    (win0_2.index t (0 : Fin 4) = t.val / 2 ∧ win0_2.index t (1 : Fin 4) = (64 * (t.val % 2) + 127) % 128
      ∧ win0_2.index t (2 : Fin 4) = 0 ∧ win0_2.index t (3 : Fin 4) = 0)
    ∧ (win0_3.index t (0 : Fin 4) = t.val / 2 ∧ win0_3.index t (1 : Fin 4) = (64 * (t.val % 2) + 127) % 128
      ∧ win0_3.index t (2 : Fin 4) = 0 ∧ win0_3.index t (3 : Fin 4) = 0) :=
  (by decide +kernel : ∀ t : Fin grid0.N, _)

/-- The windows of the plane after: the one after the half's last, round the grid. -/
theorem index_after : ∀ t : Fin cfg0.N,
    (win0_4.index t (0 : Fin 4) = t.val / 2 ∧ win0_4.index t (1 : Fin 4) = (64 * (t.val % 2) + 64) % 128
      ∧ win0_4.index t (2 : Fin 4) = 0 ∧ win0_4.index t (3 : Fin 4) = 0)
    ∧ (win0_5.index t (0 : Fin 4) = t.val / 2 ∧ win0_5.index t (1 : Fin 4) = (64 * (t.val % 2) + 64) % 128
      ∧ win0_5.index t (2 : Fin 4) = 0 ∧ win0_5.index t (3 : Fin 4) = 0) :=
  (by decide +kernel : ∀ t : Fin grid0.N, _)

/-- A block of 64 planes cut from `X` at block index `(q, h, 0, 0)` is half `h` of batch `q`. -/
theorem slab_of (X : Vec F S4x128x128x128 .f32) {q h : ℕ} (hq : q < 4) (hh : h < 2) {n : Fin 4 → ℕ}
    (hn : n 0 = q ∧ n 1 = h ∧ n 2 = 0 ∧ n 3 = 0) (e : S1x64x128x128.Idx → S4x128x128x128.Idx)
    (he : ∀ j a, (e j a).val = n a * S1x64x128x128.size a + 1 * (j a).val) : IsSlab X q (64 * h) fun j => X (e j) := by
  intro j
  obtain ⟨n0, n1, n2, n3⟩ := hn
  have h0 : (j 0).val < 1 := (j 0).isLt
  have h1 : (j 1).val < 64 := (j 1).isLt
  have h2 : (j 2).val < 128 := (j 2).isLt
  have h3 : (j 3).val < 128 := (j 3).isLt
  refine congrArg X (eq_cell _ ((he j 0).trans ?_) ((he j 1).trans ?_) ((he j 2).trans ?_) ((he j 3).trans ?_))
  · show n 0 * 1 + 1 * (j 0).val = _; omega
  · show n 1 * 64 + 1 * (j 1).val = _; omega
  · show n 2 * 128 + 1 * (j 2).val = _; omega
  · show n 3 * 128 + 1 * (j 3).val = _; omega

/-- A block of one plane cut from `X` at block index `(q, k % 128, 0, 0)` is plane `k`, round the grid, of batch `q`. -/
theorem plane_of (X : Vec F S4x128x128x128 .f32) {q k : ℕ} (hq : q < 4) {n : Fin 4 → ℕ}
    (hn : n 0 = q ∧ n 1 = k % 128 ∧ n 2 = 0 ∧ n 3 = 0) (e : S1x1x128x128.Idx → S4x128x128x128.Idx)
    (he : ∀ j a, (e j a).val = n a * S1x1x128x128.size a + 1 * (j a).val) : IsPlane X q k fun j => X (e j) := by
  intro j
  obtain ⟨n0, n1, n2, n3⟩ := hn
  have h0 : (j 0).val < 1 := (j 0).isLt
  have h1 : (j 1).val < 1 := (j 1).isLt
  have h2 : (j 2).val < 128 := (j 2).isLt
  have h3 : (j 3).val < 128 := (j 3).isLt
  refine congrArg X (eq_cell _ ((he j 0).trans ?_) ((he j 1).trans ?_) ((he j 2).trans ?_) ((he j 3).trans ?_))
  · show n 0 * 1 + 1 * (j 0).val = _; omega
  · show n 1 * 1 + 1 * (j 1).val = _; omega
  · show n 2 * 128 + 1 * (j 2).val = _; omega
  · show n 3 * 128 + 1 * (j 3).val = _; omega

/-- There are eight grid points: four batches, -/
theorem batch_lt (t : Fin cfg0.N) : t.val / 2 < 4 := by have : t.val < 8 := t.isLt; omega
/-- of two halves. -/
theorem half_lt (t : Fin cfg0.N) : t.val % 2 < 2 := Nat.mod_lt _ (by decide)

variable (m : (ℓ : Loc nD τ sig) → Buf (Elt F) ℓ) (ρ : Dev nD → PrngReg) (c : Dev nD) (t : Fin cfg0.N)

/-- The body's first block: 64 planes of the field. -/
theorem block0 : IsSlab (V m c main_arg0) (t.val / 2) (64 * (t.val % 2)) (iblk m c 0 t) :=
  slab_of _ (batch_lt t) (half_lt t) (index_slab t).1 _ fun _ _ => rfl

/-- The same planes of the mask. -/
theorem block1 : IsSlab (V m c main_arg1) (t.val / 2) (64 * (t.val % 2)) (iblk m c 1 t) :=
  slab_of _ (batch_lt t) (half_lt t) (index_slab t).2.1 _ fun _ _ => rfl

/-- The plane of the field before them. -/
theorem block2 : IsPlane (V m c main_arg0) (t.val / 2) (64 * (t.val % 2) + 127) (iblk m c 2 t) :=
  plane_of _ (batch_lt t) (index_before t).1 _ fun _ _ => rfl

/-- The plane of the mask before them. -/
theorem block3 : IsPlane (V m c main_arg1) (t.val / 2) (64 * (t.val % 2) + 127) (iblk m c 3 t) :=
  plane_of _ (batch_lt t) (index_before t).2 _ fun _ _ => rfl

/-- The plane of the field after them. -/
theorem block4 : IsPlane (V m c main_arg0) (t.val / 2) (64 * (t.val % 2) + 64) (iblk m c 4 t) :=
  plane_of _ (batch_lt t) (index_after t).1 _ fun _ _ => rfl

/-- The plane of the mask after them. -/
theorem block5 : IsPlane (V m c main_arg1) (t.val / 2) (64 * (t.val % 2) + 64) (iblk m c 5 t) :=
  plane_of _ (batch_lt t) (index_after t).2 _ fun _ _ => rfl

/-- Where an index of the output block sits in the result array. -/
theorem emb6 (j : S1x64x128x128.Idx) :
    (((cfg0.win 6).blk t).view.emb j (0 : Fin 4)).val = t.val / 2
    ∧ (((cfg0.win 6).blk t).view.emb j (1 : Fin 4)).val = 64 * (t.val % 2) + (j 1).val
    ∧ (((cfg0.win 6).blk t).view.emb j (2 : Fin 4)).val = (j 2).val
    ∧ (((cfg0.win 6).blk t).view.emb j (3 : Fin 4)).val = (j 3).val := by
  obtain ⟨-, -, e0, e1, e2, e3⟩ := index_slab t
  have h0 : (j 0).val < 1 := (j 0).isLt
  refine ⟨?_, ?_, ?_, ?_⟩
  · show win0_6.index t (0 : Fin 4) * 1 + 1 * (j 0).val = _; omega
  · show win0_6.index t (1 : Fin 4) * 64 + 1 * (j 1).val = _; omega
  · show win0_6.index t (2 : Fin 4) * 128 + 1 * (j 2).val = _; omega
  · show win0_6.index t (3 : Fin 4) * 128 + 1 * (j 3).val = _; omega

/-- What a grid point writes back is its block of the stencil of the grids. -/
theorem flushed_eq : (dats m 0 c).flushed 6 t
    = ((cfg0.win 6).blk t).view.read (Elt F) (stencil (V m c main_arg0) (V m c main_arg1)) := by
  rw [flushed6_A, out_eq _ _ _ _ _ _ _ _ _ _ _ _ _ _ _ _ (block0 m c t) (block1 m c t) (block2 m c t) (block3 m c t)
    (block4 m c t) (block5 m c t)]
  funext j
  obtain ⟨e0, e1, e2, e3⟩ := emb6 t j
  show valueAt _ _ (t.val / 2) (64 * (t.val % 2) + (j 1).val) (j 2).val (j 3).val
    = valueAt _ _ (((cfg0.win 6).blk t).view.emb j (0 : Fin 4)).val (((cfg0.win 6).blk t).view.emb j (1 : Fin 4)).val
      (((cfg0.win 6).blk t).view.emb j (2 : Fin 4)).val (((cfg0.win 6).blk t).view.emb j (3 : Fin 4)).val
  rw [e0, e1, e2, e3]

/-- Every index of the result array is in some point's block. -/
theorem covered (i : S4x128x128x128.Idx) : ∃ t : Fin cfg0.N, (cfg0.win 6).flush t = true ∧ i ∈ ((cfg0.win 6).blk t).view.set := by
  have h0 : (i 0).val < 4 := (i 0).isLt
  have h1 : (i 1).val < 128 := (i 1).isLt
  let t : Fin cfg0.N := ⟨2 * (i 0).val + (i 1).val / 64, by show _ < 8; omega⟩
  let j : S1x64x128x128.Idx :=
    ValueIdx.ix4 ⟨0, by decide⟩ ⟨(i 1).val % 64, Nat.mod_lt _ (by decide)⟩ (i 2) (i 3)
  refine ⟨t, flush0_6 t, ?_⟩
  have h := ((cfg0.win 6).blk t).view.emb_mem_set j
  obtain ⟨e0, e1, e2, e3⟩ := emb6 t j
  have e : ((cfg0.win 6).blk t).view.emb j = i := by
    funext a
    apply Fin.ext
    match a with
    | ⟨0, _⟩ => refine e0.trans ?_; show (2 * (i 0).val + (i 1).val / 64) / 2 = (i 0).val; omega
    | ⟨1, _⟩ =>
      refine e1.trans ?_
      show 64 * ((2 * (i 0).val + (i 1).val / 64) % 2) + (i 1).val % 64 = (i 1).val; omega
    | ⟨2, _⟩ => exact e2
    | ⟨3, _⟩ => exact e3
  rwa [e] at h

/-- The result array after the run is the stencil of the argument grids as launched. -/
theorem final : (dats m 0 c).arrAt 6 cfg0.N
    = stencil (m ((c : Thread nD τ).loc main_arg0)) (m ((c : Thread nD τ).loc main_arg1)) :=
  ((dats m 0 c).arrAt_eq_of_cover 6 (stencil (V m c main_arg0) (V m c main_arg1)) (fun t _ => flushed_eq m c t) covered).trans
    (by rw [V_main_arg0, V_main_arg1])

/-- From any memory, every execution of the kernel ends with the stencil of the two grids in the result, and the arguments
    as they were. -/
theorem run : θ_run defs (onTc (τ := τ) (main (F := F))) ⟨m, fun _ => 0, ρ⟩ fun r => ∀ c : Dev nD,
      r.2.mem ((c : Thread nD τ).loc main_v0)
        = stencil (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.Proof.Array

end
-- ==== Proof.Reference.lean ====
/- Hand-written, untrusted: WHAT THE REFERENCE COMPUTES, at a point, at any float values (`result_apply`). The reference
   stacks its three grids and takes each out again (`unstack`), and turns a grid by one along an axis by laying its last
   slice before the rest, or its first slice after the rest (`turned`). -/
module

public import proofs.«01_k».proof.Proof.Stencil
public import proofs.«01_k».proof.Proof.Gen.ReferenceIdeal.Run
public import Idealize.ShloMosaic.Lib.Pipeline.Value

@[expose] public section

noncomputable section

namespace Cert.Proof.Reference

open Cert.ReferenceIdeal Cert.ReferenceIdeal.Gen Cert.Proof.Stencil
open Idealize.ShloMosaic Idealize.ShloMosaic.TcCoe Idealize.ShloMosaic.ValueIdx Idealize.SL.Sem

section Layout

variable {α : Type}

/-- Three grids, each under a new first axis of extent one: what the reference stacks. -/
def layers (hb : S4x128x128x128.BroadcastsInDim S1x4x128x128x128 ![1, 2, 3, 4]) (a : Fin 3 → S4x128x128x128.Idx → α) :
    List ((s : Shape) × (s.Idx → α)) :=
  [⟨S1x4x128x128x128, broadcastInDim S1x4x128x128x128 ![1, 2, 3, 4] hb (a 0)⟩,
    ⟨S1x4x128x128x128, broadcastInDim S1x4x128x128x128 ![1, 2, 3, 4] hb (a 1)⟩,
    ⟨S1x4x128x128x128, broadcastInDim S1x4x128x128x128 ![1, 2, 3, 4] hb (a 2)⟩]

/-- One of three stacked grids, taken out of the stack, is that grid. -/
theorem unstack (k : Fin 3) (a : Fin 3 → S4x128x128x128.Idx → α)
    (hb : S4x128x128x128.BroadcastsInDim S1x4x128x128x128 ![1, 2, 3, 4])
    (hc : Shape.Concatenates ((layers hb a).map (·.1)) S3x4x128x128x128 0)
    (hs : S3x4x128x128x128.Slices ![k.val, 0, 0, 0, 0] S1x4x128x128x128)
    (hd : S1x4x128x128x128.ShapeCasts S4x128x128x128) :
    shapeCast S4x128x128x128 (extractStridedSlice S1x4x128x128x128 ![k.val, 0, 0, 0, 0]
      (concatenate S3x4x128x128x128 0 (layers hb a) hc) hs) hd = a k := by
  funext i
  refine (shapeCast_dropUnit_apply ![4, 128, 128, 128] _ hd i).trans ?_
  refine (concatenate_apply_piece (t := S3x4x128x128x128) (0 : Fin 5) (layers hb a) hc _ k.val k.isLt S1x4x128x128x128
    (broadcastInDim S1x4x128x128x128 ![1, 2, 3, 4] hb (a k)) ?_ rfl k.val ?_
    (ix5 ⟨0, by decide⟩ (i 0) (i 1) (i 2) (i 3)) ?_ ?_).trans ?_
  · fin_cases k <;> rfl
  · fin_cases k <;> rfl
  · intro b hb'
    fin_cases b
    · exact absurd rfl hb'
    · show (i 0).val = 0 + (i 0).val; omega
    · show (i 1).val = 0 + (i 1).val; omega
    · show (i 2).val = 0 + (i 2).val; omega
    · show (i 3).val = 0 + (i 3).val; omega
  · rfl
  · refine congrArg (a k) (funext fun b => ?_)
    fin_cases b <;> rfl

/-- The index `s` further along axis `a`, round the grid. -/
def turn (a : Fin 4) (s : ℕ) (j : S4x128x128x128.Idx) : S4x128x128x128.Idx :=
  fun b => if b = a then ⟨((j b).val + s) % S4x128x128x128.size b, Nat.mod_lt _ (Fin.pos (j b))⟩ else j b

/-- A grid's slices from `s` on along an axis, joined with its first `s` slices, are the grid turned by `s`. -/
theorem turned {d₁ d₂ o₁ o₂ : Fin 4 → ℕ} (a : Fin 4) (s : ℕ) (X : S4x128x128x128.Idx → α)
    (h₁ : S4x128x128x128.Slices o₁ ⟨4, d₁⟩) (h₂ : S4x128x128x128.Slices o₂ ⟨4, d₂⟩)
    (h : Shape.Concatenates [⟨4, d₁⟩, ⟨4, d₂⟩] S4x128x128x128 a) (j : S4x128x128x128.Idx)
    (hs : s ≤ S4x128x128x128.size a)
    (hd₁ : ∀ b, d₁ b = if b = a then S4x128x128x128.size b - s else S4x128x128x128.size b)
    (hd₂ : ∀ b, d₂ b = if b = a then s else S4x128x128x128.size b)
    (ho₁ : ∀ b, o₁ b = if b = a then s else 0) (ho₂ : ∀ b, o₂ b = 0) :
    concatenate S4x128x128x128 a [⟨⟨4, d₁⟩, extractStridedSlice ⟨4, d₁⟩ o₁ X h₁⟩,
      ⟨⟨4, d₂⟩, extractStridedSlice ⟨4, d₂⟩ o₂ X h₂⟩] h j = X (turn a s j) := by
  have hj : (j a).val < S4x128x128x128.size a := (j a).isLt
  have ha : d₁ a = S4x128x128x128.size a - s := by rw [hd₁, if_pos rfl]
  by_cases hlt : (j a).val < d₁ a
  · have hi : ∀ b, (j b).val < d₁ b := fun b => by
      by_cases hb : b = a
      · rw [hb]; exact hlt
      · rw [hd₁, if_neg hb]; exact (j b).isLt
    let i : (⟨4, d₁⟩ : Shape).Idx := fun b => ⟨(j b).val, hi b⟩
    refine (concatenate_pair_apply_left (s₁ := ⟨4, d₁⟩) a _ _ h j rfl i fun _ => rfl).trans ?_
    refine congrArg X (funext fun b => Fin.ext ?_)
    show o₁ b + (j b).val = (turn a s j b).val
    rw [ho₁, turn]
    by_cases hb : b = a
    · subst hb
      rw [if_pos rfl, if_pos rfl]
      show _ = ((j b).val + s) % _
      rw [Nat.mod_eq_of_lt (by omega), Nat.add_comm]
    · rw [if_neg hb, if_neg hb, Nat.zero_add]
  · have hi : ∀ b, (if b = a then (j b).val - d₁ b else (j b).val) < d₂ b := fun b => by
      rw [hd₂]
      by_cases hb : b = a
      · subst hb; rw [if_pos rfl, if_pos rfl]; omega
      · rw [if_neg hb, if_neg hb]; exact (j b).isLt
    let i : (⟨4, d₂⟩ : Shape).Idx := fun b => ⟨_, hi b⟩
    refine (concatenate_pair_apply_right (t := S4x128x128x128) (s₁ := ⟨4, d₁⟩) (s₂ := ⟨4, d₂⟩) a _ _ h j rfl rfl i
      (fun b hb => if_neg hb) ?_).trans ?_
    · show (if a = a then (j a).val - d₁ a else (j a).val) + d₁ a = (j a).val
      rw [if_pos rfl]; omega
    · refine congrArg X (funext fun b => Fin.ext ?_)
      show o₂ b + (if b = a then (j b).val - d₁ b else (j b).val) = (turn a s j b).val
      rw [ho₂, turn, Nat.zero_add]
      by_cases hb : b = a
      · subst hb
        rw [if_pos rfl, if_pos rfl]
        show _ = ((j b).val + s) % _
        rw [Nat.mod_eq_sub_mod (by omega), Nat.mod_eq_of_lt (by omega)]; omega
      · rw [if_neg hb, if_neg hb]

end Layout

variable {F : FTy → Type} [FloatOps F]

/-- The reference's value at a point: the six neighbours less six times the point, over the square of the spacing there,
    under the mask. -/
def laplacianAt (mu act dx : Vec F S4x128x128x128 .f32) (b x y z : ℕ) : F .f32 :=
  FloatOps.mulf
    (FloatOps.hostDivf
      (FloatOps.subf
        (FloatOps.addf
          (FloatOps.addf
            (FloatOps.addf
              (FloatOps.addf (FloatOps.addf (masked mu act b (x + 127) y z) (masked mu act b (x + 1) y z))
                (masked mu act b x (y + 127) z))
              (masked mu act b x (y + 1) z))
            (masked mu act b x y (z + 127)))
          (masked mu act b x y (z + 1)))
        (FloatOps.mulf (FloatOps.ofBits .f32 0x40C00000#32) (masked mu act b x y z)))
      (FloatOps.mulf (dx (cell b x y z)) (dx (cell b x y z))))
    (act (cell b x y z))

variable (m : (ℓ : Loc nD τ sig) → Buf (Elt F) ℓ) (c : Dev nD)

/-- The reference's operations on its three grids, each already taken out of the stack. -/
def laplacian (mu act dx : Vec F S4x128x128x128 .f32) : Vec F S4x128x128x128 .f32 :=
  let e : Vec F S4x128x128x128 .f32 := mulf mu act
  mulf (Host.divf (subf (addf (addf (addf (addf (addf
      (concatenate S4x128x128x128 1
        [⟨S4x1x128x128, extractStridedSlice S4x1x128x128 ![0, 127, 0, 0] e slices_S4x128x128x128_S4x1x128x128_0_127_0_0⟩,
          ⟨S4x127x128x128, extractStridedSlice S4x127x128x128 ![0, 0, 0, 0] e slices_S4x128x128x128_S4x127x128x128_0_0_0_0⟩]
        concatenates_S4x1x128x128_S4x127x128x128_S4x128x128x128_d1)
      (concatenate S4x128x128x128 1
        [⟨S4x127x128x128, extractStridedSlice S4x127x128x128 ![0, 1, 0, 0] e slices_S4x128x128x128_S4x127x128x128_0_1_0_0⟩,
          ⟨S4x1x128x128, extractStridedSlice S4x1x128x128 ![0, 0, 0, 0] e slices_S4x128x128x128_S4x1x128x128_0_0_0_0⟩]
        concatenates_S4x127x128x128_S4x1x128x128_S4x128x128x128_d1))
      (concatenate S4x128x128x128 2
        [⟨S4x128x1x128, extractStridedSlice S4x128x1x128 ![0, 0, 127, 0] e slices_S4x128x128x128_S4x128x1x128_0_0_127_0⟩,
          ⟨S4x128x127x128, extractStridedSlice S4x128x127x128 ![0, 0, 0, 0] e slices_S4x128x128x128_S4x128x127x128_0_0_0_0⟩]
        concatenates_S4x128x1x128_S4x128x127x128_S4x128x128x128_d2))
      (concatenate S4x128x128x128 2
        [⟨S4x128x127x128, extractStridedSlice S4x128x127x128 ![0, 0, 1, 0] e slices_S4x128x128x128_S4x128x127x128_0_0_1_0⟩,
          ⟨S4x128x1x128, extractStridedSlice S4x128x1x128 ![0, 0, 0, 0] e slices_S4x128x128x128_S4x128x1x128_0_0_0_0⟩]
        concatenates_S4x128x127x128_S4x128x1x128_S4x128x128x128_d2))
      (concatenate S4x128x128x128 3
        [⟨S4x128x128x1, extractStridedSlice S4x128x128x1 ![0, 0, 0, 127] e slices_S4x128x128x128_S4x128x128x1_0_0_0_127⟩,
          ⟨S4x128x128x127, extractStridedSlice S4x128x128x127 ![0, 0, 0, 0] e slices_S4x128x128x128_S4x128x128x127_0_0_0_0⟩]
        concatenates_S4x128x128x1_S4x128x128x127_S4x128x128x128_d3))
      (concatenate S4x128x128x128 3
        [⟨S4x128x128x127, extractStridedSlice S4x128x128x127 ![0, 0, 0, 1] e slices_S4x128x128x128_S4x128x128x127_0_0_0_1⟩,
          ⟨S4x128x128x1, extractStridedSlice S4x128x128x1 ![0, 0, 0, 0] e slices_S4x128x128x128_S4x128x128x1_0_0_0_0⟩]
        concatenates_S4x128x128x127_S4x128x128x1_S4x128x128x128_d3))
      (mulf (broadcastInDim S4x128x128x128 ![] bcast_S_S4x128x128x128 (constant S_ .f32 0x40C00000#32)) e))
    (mulf dx dx)) act

/-- The reference's result is that of the grids it was given: the stack comes apart as it was put together. -/
theorem result_eq : Value.res_out0 m c
    = laplacian (m ((c.tc : Thread nD τ).loc main_arg0)) (m ((c.tc : Thread nD τ).loc main_arg1))
        (m ((c.tc : Thread nD τ).loc main_arg2)) := by
  have u (k : Fin 3) := unstack k
    ![m ((c.tc : Thread nD τ).loc main_arg0), m ((c.tc : Thread nD τ).loc main_arg1), m ((c.tc : Thread nD τ).loc main_arg2)]
    bcast_S4x128x128x128_S1x4x128x128x128_1_2_3_4
    concatenates_S1x4x128x128x128_S1x4x128x128x128_S1x4x128x128x128_S3x4x128x128x128_d0
  exact congr (congrArg₂ laplacian
      (u 0 slices_S3x4x128x128x128_S1x4x128x128x128_0_0_0_0_0 shapeCasts_S1x4x128x128x128_S4x128x128x128)
      (u 1 slices_S3x4x128x128x128_S1x4x128x128x128_1_0_0_0_0 shapeCasts_S1x4x128x128x128_S4x128x128x128))
    (u 2 slices_S3x4x128x128x128_S1x4x128x128x128_2_0_0_0_0 shapeCasts_S1x4x128x128x128_S4x128x128x128)

/-- The product of two grids, turned along an axis, is the masked field at the neighbour. -/
theorem neighbour {d₁ d₂ o₁ o₂ : Fin 4 → ℕ} (mu act : Vec F S4x128x128x128 .f32) (a : Fin 4) (s : ℕ)
    (h₁ : S4x128x128x128.Slices o₁ ⟨4, d₁⟩) (h₂ : S4x128x128x128.Slices o₂ ⟨4, d₂⟩)
    (h : Shape.Concatenates [⟨4, d₁⟩, ⟨4, d₂⟩] S4x128x128x128 a) (i : S4x128x128x128.Idx)
    (hs : s ≤ S4x128x128x128.size a)
    (hd₁ : ∀ b, d₁ b = if b = a then S4x128x128x128.size b - s else S4x128x128x128.size b)
    (hd₂ : ∀ b, d₂ b = if b = a then s else S4x128x128x128.size b)
    (ho₁ : ∀ b, o₁ b = if b = a then s else 0) (ho₂ : ∀ b, o₂ b = 0) {b x y z : ℕ} (e : turn a s i = cell b x y z) :
    concatenate S4x128x128x128 a [⟨⟨4, d₁⟩, extractStridedSlice ⟨4, d₁⟩ o₁ (mulf mu act) h₁⟩,
      ⟨⟨4, d₂⟩, extractStridedSlice ⟨4, d₂⟩ o₂ (mulf mu act) h₂⟩] h i = masked mu act b x y z := by
  rw [turned a s (mulf mu act) h₁ h₂ h i hs hd₁ hd₂ ho₁ ho₂, e]; rfl

/-- An index turned along the planes, -/
theorem turn_x (s : ℕ) (i : S4x128x128x128.Idx) : turn 1 s i = cell (i 0).val ((i 1).val + s) (i 2).val (i 3).val :=
  eq_cell _ (Nat.mod_eq_of_lt (i 0).isLt).symm rfl (Nat.mod_eq_of_lt (i 2).isLt).symm (Nat.mod_eq_of_lt (i 3).isLt).symm

/-- along the rows of a plane, -/
theorem turn_y (s : ℕ) (i : S4x128x128x128.Idx) : turn 2 s i = cell (i 0).val (i 1).val ((i 2).val + s) (i 3).val :=
  eq_cell _ (Nat.mod_eq_of_lt (i 0).isLt).symm (Nat.mod_eq_of_lt (i 1).isLt).symm rfl (Nat.mod_eq_of_lt (i 3).isLt).symm

/-- and along a row. -/
theorem turn_z (s : ℕ) (i : S4x128x128x128.Idx) : turn 3 s i = cell (i 0).val (i 1).val (i 2).val ((i 3).val + s) :=
  eq_cell _ (Nat.mod_eq_of_lt (i 0).isLt).symm (Nat.mod_eq_of_lt (i 1).isLt).symm (Nat.mod_eq_of_lt (i 2).isLt).symm rfl

/-- The reference's result at an index. -/
theorem result_apply (i : S4x128x128x128.Idx) :
    Value.res_out0 m c i
      = laplacianAt (m ((c.tc : Thread nD τ).loc main_arg0)) (m ((c.tc : Thread nD τ).loc main_arg1))
          (m ((c.tc : Thread nD τ).loc main_arg2)) (i 0).val (i 1).val (i 2).val (i 3).val := by
  rw [result_eq]
  have ei : i = cell (i 0).val (i 1).val (i 2).val (i 3).val :=
    eq_cell _ (Nat.mod_eq_of_lt (i 0).isLt).symm (Nat.mod_eq_of_lt (i 1).isLt).symm (Nat.mod_eq_of_lt (i 2).isLt).symm
      (Nat.mod_eq_of_lt (i 3).isLt).symm
  have at_i (X : Vec F S4x128x128x128 .f32) : X i = X (cell (i 0).val (i 1).val (i 2).val (i 3).val) := congrArg X ei
  exact congrArg₂ FloatOps.mulf (congrArg₂ FloatOps.hostDivf (congrArg₂ FloatOps.subf
      (congrArg₂ FloatOps.addf (congrArg₂ FloatOps.addf (congrArg₂ FloatOps.addf (congrArg₂ FloatOps.addf
        (congrArg₂ FloatOps.addf
          (neighbour _ _ 1 127 _ _ _ i (by decide) (by decide) (by decide) (by decide) (by decide) (turn_x 127 i))
          (neighbour _ _ 1 1 _ _ _ i (by decide) (by decide) (by decide) (by decide) (by decide) (turn_x 1 i)))
        (neighbour _ _ 2 127 _ _ _ i (by decide) (by decide) (by decide) (by decide) (by decide) (turn_y 127 i)))
        (neighbour _ _ 2 1 _ _ _ i (by decide) (by decide) (by decide) (by decide) (by decide) (turn_y 1 i)))
        (neighbour _ _ 3 127 _ _ _ i (by decide) (by decide) (by decide) (by decide) (by decide) (turn_z 127 i)))
        (neighbour _ _ 3 1 _ _ _ i (by decide) (by decide) (by decide) (by decide) (by decide) (turn_z 1 i)))
      (congrArg (FloatOps.mulf _) (congrArg₂ FloatOps.mulf (at_i _) (at_i _))))
      (congrArg₂ FloatOps.mulf (at_i _) (at_i _)))
    (at_i _)

end Cert.Proof.Reference

end
-- ==== Proof.Equation.lean ====
/- Hand-written, untrusted: THE EQUATION, over the extended reals: with a spacing of one everywhere (`spacing`) the square
   of the spacing is one and the division leaves its operand, and the reference's sum is the kernel's, associated otherwise
   (`laplacian_eq`). Nothing is asked of the grids themselves: addition there is associative and commutative at the
   infinities too, and a difference is the sum with the negation. -/
module

public import proofs.«01_k».proof.Proof.Reference
public import proofs.«01_k».proof.Proof.Gen.Pre_unit_spacing
public import Idealize.ShloMosaic.Lib.IdealHost
public import Idealize.ShloMosaic.Lib.Pointwise
public import Idealize.ShloMosaic.Lib.ReduceAll

@[expose] public section

noncomputable section

namespace Cert.Proof.Equation

open Cert.KernelIdeal Cert.Proof.Stencil Cert.Proof.Reference
open Idealize.ShloMosaic Idealize.ShloMosaic.ValueIdx

/-- Where the precondition holds, the spacing is one at every point. -/
theorem spacing (mu act dx : Vec Ideal S4x128x128x128 .f32) (weight bias : Vec Ideal S1 .f32)
    (h : Cert.Pre_unit_spacing.fn (F := Ideal) mu act dx weight bias = fun _ => 1#1) (i : S4x128x128x128.Idx) :
    dx i = (1 : EReal) := by
  have : Subsingleton (Cert.Pre_unit_spacing.S_).Idx := ⟨fun a b => funext fun k => k.elim0⟩
  have e := Host.reduce_andi_all _ _ _ _ (fun k => k.elim0) (congrFun h fun k => k.elim0) i
  have e' : Ideal.cmp .oeq (dx i) (Ideal.ofBits .f32 0x3F800000#32) = 1#1 := e
  exact ((Ideal.cmp_oeq_eq_one _ _).mp e').trans Idealize.ShloMosaic.Ideal.ofBits_one_f32

/-- Over the square of a spacing of one, a value is itself. -/
theorem div_one_sq (x : EReal) : Ideal.div x (1 * 1) = x := by
  rw [mul_one, Ideal.div, if_neg one_ne_zero, inv_one, mul_one]

/-- Six neighbours summed one after the other, less the centre: the pair along the first axis, and the rest. -/
theorem sum_regroup (a b p q r s k : EReal) :
    a + b + p + q + r + s - k = a + b + (p + q + r + s - k) := by
  simp only [sub_eq_add_neg, add_assoc]

/-- With a spacing of one, the reference's value at a point is the kernel's. -/
theorem laplacian_eq (mu act dx : Vec Ideal S4x128x128x128 .f32) (h : ∀ i, dx i = (1 : EReal)) (b x y z : ℕ) :
    laplacianAt mu act dx b x y z = valueAt mu act b x y z := by
  unfold laplacianAt valueAt inPlane
  rw [h]
  refine congrArg (fun v : EReal => v * act (cell b x y z)) ?_
  exact (div_one_sq _).trans (sum_regroup _ _ _ _ _ _ _)

end Cert.Proof.Equation

end
-- ==== Proof.lean ====
/- Hand-written, untrusted: THE CLAIM, assembled. The frames of the kernel, as compiled and idealized, are the generated
   ones; the reference's is its generated run, whose signature has no semaphore. The kernel's result is the stencil of its
   two grids (Proof/Array.lean), the reference's is its Laplacian of the same grids (Proof/Reference.lean), and the two agree
   where the spacing is one (Proof/Equation.lean). -/
module

public import proofs.«01_k».proof.Proof.Array
public import proofs.«01_k».proof.Proof.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unit_spacing
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Every execution of the reference ends with its arguments as they were and every semaphore at zero: it has none. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where the spacing is one, the kernel and the reference, on the same arguments, both end with the stencil of the grids. -/
theorem equal : Cert.algebraic_KernelIdeal_ReferenceIdeal_pre_unit_spacing := by
  intro m ρ m' ρ' hpre hagree
  refine ⟨fun c => Stencil.stencil (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Array.run m ρ,
    (θ_run Cert.ReferenceIdeal.defs _ _).mono (fun r h c => ⟨(h c).1.trans ?_, (h c).2⟩)
      (Cert.ReferenceIdeal.Value.run (F := Ideal) m' ρ')⟩
  obtain ⟨h0, h1, h2, -, -⟩ := hagree c
  funext i
  refine (Reference.result_apply m' c i).trans ?_
  rw [h0, h1, h2]
  exact Equation.laplacian_eq _ _ _ (Equation.spacing _ _ _ _ _ (hpre c)) _ _ _ _

/-- The five claims: both kernel frames, the reference frame, the idealization, and the equality. -/
theorem claim : Cert.Claim := ⟨Cert.Kernel.Gen.facts, Cert.KernelIdeal.Gen.facts, Cert.ReferenceIdeal.Gen.facts, Cert.Pre_unit_spacing.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  equal⟩

end Cert.Proof

end
